-- ==== Defs.lean ====
def Pre_Kernel [hPre_positions_in_range : Cert.Pre_positions_in_range.Facts] (m : (ℓ : Loc Cert.Kernel.nD Cert.Kernel.τ Cert.Kernel.sig) → Buf (Elt Bits) ℓ) : Prop :=
  ∀ c : Dev Cert.Kernel.nD,
    (Cert.Pre_positions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_range [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_positions_in_range : Cert.Pre_positions_in_range.Facts] (m : (ℓ : Loc Cert.Reference.nD Cert.Reference.τ Cert.Reference.sig) → Buf (Elt Bits) ℓ) : Prop :=
  ∀ c : Dev Cert.Reference.nD,
    (Cert.Pre_positions_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def quiescent_Kernel [hKernel : Cert.Kernel.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions_in_range [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_positions_in_range : Cert.Pre_positions_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v5)) (v1 : (c : Dev Cert.Kernel.nD) → Buf (Elt Bits) ((c.tc : Thread Cert.Kernel.nD Cert.Kernel.τ).loc Cert.Kernel.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_v6) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_v13) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts) (hPre_positions_in_range : Cert.Pre_positions_in_range.Facts),
    quiescent_Kernel (hKernel := hKernel) (hPre_positions_in_range := hPre_positions_in_range)
    ∧ quiescent_KernelIdeal (hKernelIdeal := hKernelIdeal) (hPre_positions_in_range := hPre_positions_in_range)
    ∧ quiescent_ReferenceIdeal (hReferenceIdeal := hReferenceIdeal)
    ∧ quiescent_ReferenceIdeal_pre_positions_in_range (hReferenceIdeal := hReferenceIdeal) (hPre_positions_in_range := hPre_positions_in_range)
    ∧ quiescent_Reference (hReference := hReference) (hPre_positions_in_range := hPre_positions_in_range)
    ∧ preserves_Kernel_KernelIdeal
    ∧ algebraic_KernelIdeal_ReferenceIdeal (hKernelIdeal := hKernelIdeal) (hReferenceIdeal := hReferenceIdeal) (hPre_positions_in_range := hPre_positions_in_range)
    ∧ bitexact_Kernel_Reference (hKernel := hKernel) (hReference := hReference) (hPre_positions_in_range := hPre_positions_in_range)
-- ==== Pre_positions_in_range.lean ====
abbrev S8x32x2048x64 : Shape := ⟨4, ![8, 32, 2048, 64]⟩
abbrev S16 : Shape := ⟨1, ![16]⟩
abbrev S8x32x16x64 : Shape := ⟨4, ![8, 32, 16, 64]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S8x32x2048x64 .f32) (main_arg1 : FVec F S8x32x2048x64 .f32) (main_arg2 : IVec S16 32) (main_arg3 : FVec F S8x32x16x64 .f32) (main_arg4 : FVec F S8x32x16x64 .f32) : IVec S_ 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 2048#32
  let main_v2 : IVec S16 32 := broadcastInDim S16 ![] bcast_S_S16 main_c_0
  let main_v3 : IVec S16 1 := cmpi .slt main_arg2 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S8x32x2048x64 : Shape := ⟨4, ![8, 32, 2048, 64]⟩
abbrev S16 : Shape := ⟨1, ![16]⟩
abbrev S8x32x16x64 : Shape := ⟨4, ![8, 32, 16, 64]⟩
abbrev S256x2048x64 : Shape := ⟨3, ![256, 2048, 64]⟩
abbrev S256x16x64 : Shape := ⟨3, ![256, 16, 64]⟩
abbrev S1x2048x64 : Shape := ⟨3, ![1, 2048, 64]⟩
abbrev S1x16x64 : Shape := ⟨3, ![1, 16, 64]⟩
abbrev S1 : Shape := ⟨1, ![1]⟩
abbrev S1x1x64 : Shape := ⟨3, ![1, 1, 64]⟩
abbrev S1x64 : Shape := ⟨2, ![1, 64]⟩

abbrev nBuf : Space → Nat
  | .hbm => 12
  | .vmem => 12
  | .smem => 1
  | _ => 0

abbrev bufTy : (tb : Table) → Fin (tcTables nBuf tb) → BufTy
  | .hbm, ⟨0, _⟩ => ⟨S8x32x2048x64, .f32⟩
  | .hbm, ⟨1, _⟩ => ⟨S8x32x2048x64, .f32⟩
  | .hbm, ⟨2, _⟩ => ⟨S8x32x16x64, .f32⟩
  | .hbm, ⟨3, _⟩ => ⟨S8x32x16x64, .f32⟩
  | .hbm, ⟨4, _⟩ => ⟨S256x2048x64, .f32⟩
  | .hbm, ⟨5, _⟩ => ⟨S256x2048x64, .f32⟩
  | .hbm, ⟨6, _⟩ => ⟨S256x16x64, .f32⟩
  | .hbm, ⟨7, _⟩ => ⟨S256x16x64, .f32⟩
  | .hbm, ⟨8, _⟩ => ⟨S256x2048x64, .f32⟩
  | .hbm, ⟨9, _⟩ => ⟨S256x2048x64, .f32⟩
  | .hbm, ⟨10, _⟩ => ⟨S8x32x2048x64, .f32⟩
  | .hbm, ⟨11, _⟩ => ⟨S8x32x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x16x64, .f32⟩
  | .local _ .vmem, ⟨5, _⟩ => ⟨S1x16x64, .f32⟩
  | .local _ .vmem, ⟨6, _⟩ => ⟨S1x16x64, .f32⟩
  | .local _ .vmem, ⟨7, _⟩ => ⟨S1x16x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .smem, ⟨0, _⟩ => ⟨S16, .i32⟩
  | _, _ => ⟨S8x32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (v6 : BitVec 32) : Fin 3 → Nat :=
  let c0_15 : Index := 0#32
  let v9 : Index := Scalar.indexCast v6
  let c0_16 : Index := 0#32
  ![0, v9.toNat, 0]

def k0_chk1 (v6 : BitVec 32) : Prop :=
  (∀ a, (k0_off1 v6) a + S1x1x64.size a ≤ S1x2048x64.size a)
theorem k0_off1_inb : ∀ (v6 : BitVec 32) (k0_hw1 : k0_chk1 v6), ∀ a, (k0_off1 v6) a + S1x1x64.size a ≤ S1x2048x64.size a := fun v6 k0_hw1 => k0_hw1

def k0_off2 (v19 : BitVec 32) : Fin 3 → Nat :=
  let c0_25 : Index := 0#32
  let v22 : Index := Scalar.indexCast v19
  let c0_26 : Index := 0#32
  ![0, v22.toNat, 0]

def k0_chk2 (v19 : BitVec 32) : Prop :=
  (∀ a, (k0_off2 v19) a + S1x1x64.size a ≤ S1x2048x64.size a)
theorem k0_off2_inb : ∀ (v19 : BitVec 32) (k0_hw2 : k0_chk2 v19), ∀ a, (k0_off2 v19) a + S1x1x64.size a ≤ S1x2048x64.size a := fun v19 k0_hw2 => k0_hw2

def k0_off3 (v32 : BitVec 32) : Fin 3 → Nat :=
  let c0_35 : Index := 0#32
  let v35 : Index := Scalar.indexCast v32
  let c0_36 : Index := 0#32
  ![0, v35.toNat, 0]

def k0_chk3 (v32 : BitVec 32) : Prop :=
  (∀ a, (k0_off3 v32) a + S1x1x64.size a ≤ S1x2048x64.size a)
theorem k0_off3_inb : ∀ (v32 : BitVec 32) (k0_hw3 : k0_chk3 v32), ∀ a, (k0_off3 v32) a + S1x1x64.size a ≤ S1x2048x64.size a := fun v32 k0_hw3 => k0_hw3

def k0_off4 (v45 : BitVec 32) : Fin 3 → Nat :=
  let c0_45 : Index := 0#32
  let v48 : Index := Scalar.indexCast v45
  let c0_46 : Index := 0#32
  ![0, v48.toNat, 0]

def k0_chk4 (v45 : BitVec 32) : Prop :=
  (∀ a, (k0_off4 v45) a + S1x1x64.size a ≤ S1x2048x64.size a)
theorem k0_off4_inb : ∀ (v45 : BitVec 32) (k0_hw4 : k0_chk4 v45), ∀ a, (k0_off4 v45) a + S1x1x64.size a ≤ S1x2048x64.size a := fun v45 k0_hw4 => k0_hw4

def k0_off5 (v58 : BitVec 32) : Fin 3 → Nat :=
  let c0_55 : Index := 0#32
  let v61 : Index := Scalar.indexCast v58
  let c0_56 : Index := 0#32
  ![0, v61.toNat, 0]

def k0_chk5 (v58 : BitVec 32) : Prop :=
  (∀ a, (k0_off5 v58) a + S1x1x64.size a ≤ S1x2048x64.size a)
theorem k0_off5_inb : ∀ (v58 : BitVec 32) (k0_hw5 : k0_chk5 v58), ∀ a, (k0_off5 v58) a + S1x1x64.size a ≤ S1x2048x64.size a := fun v58 k0_hw5 => k0_hw5

def k0_off6 (v71 : BitVec 32) : Fin 3 → Nat :=
  let c0_65 : Index := 0#32
  let v74 : Index := Scalar.indexCast v71
  let c0_66 : Index := 0#32
  ![0, v74.toNat, 0]

def k0_chk6 (v71 : BitVec 32) : Prop :=
  (∀ a, (k0_off6 v71) a + S1x1x64.size a ≤ S1x2048x64.size a)
theorem k0_off6_inb : ∀ (v71 : BitVec 32) (k0_hw6 : k0_chk6 v71), ∀ a, (k0_off6 v71) a + S1x1x64.size a ≤ S1x2048x64.size a := fun v71 k0_hw6 => k0_hw6

def k0_off7 (v84 : BitVec 32) : Fin 3 → Nat :=
  let c0_75 : Index := 0#32
  let v87 : Index := Scalar.indexCast v84
  let c0_76 : Index := 0#32
  ![0, v87.toNat, 0]

def k0_chk7 (v84 : BitVec 32) : Prop :=
  (∀ a, (k0_off7 v84) a + S1x1x64.size a ≤ S1x2048x64.size a)
theorem k0_off7_inb : ∀ (v84 : BitVec 32) (k0_hw7 : k0_chk7 v84), ∀ a, (k0_off7 v84) a + S1x1x64.size a ≤ S1x2048x64.size a := fun v84 k0_hw7 => k0_hw7

def k0_off8 (v97 : BitVec 32) : Fin 3 → Nat :=
  let c0_85 : Index := 0#32
  let v100 : Index := Scalar.indexCast v97
  let c0_86 : Index := 0#32
  ![0, v100.toNat, 0]

def k0_chk8 (v97 : BitVec 32) : Prop :=
  (∀ a, (k0_off8 v97) a + S1x1x64.size a ≤ S1x2048x64.size a)
theorem k0_off8_inb : ∀ (v97 : BitVec 32) (k0_hw8 : k0_chk8 v97), ∀ a, (k0_off8 v97) a + S1x1x64.size a ≤ S1x2048x64.size a := fun v97 k0_hw8 => k0_hw8

def k0_off9 (v110 : BitVec 32) : Fin 3 → Nat :=
  let c0_95 : Index := 0#32
  let v113 : Index := Scalar.indexCast v110
  let c0_96 : Index := 0#32
  ![0, v113.toNat, 0]

def k0_chk9 (v110 : BitVec 32) : Prop :=
  (∀ a, (k0_off9 v110) a + S1x1x64.size a ≤ S1x2048x64.size a)
theorem k0_off9_inb : ∀ (v110 : BitVec 32) (k0_hw9 : k0_chk9 v110), ∀ a, (k0_off9 v110) a + S1x1x64.size a ≤ S1x2048x64.size a := fun v110 k0_hw9 => k0_hw9

def k0_off10 (v123 : BitVec 32) : Fin 3 → Nat :=
  let c0_105 : Index := 0#32
  let v126 : Index := Scalar.indexCast v123
  let c0_106 : Index := 0#32
  ![0, v126.toNat, 0]

def k0_chk10 (v123 : BitVec 32) : Prop :=
  (∀ a, (k0_off10 v123) a + S1x1x64.size a ≤ S1x2048x64.size a)
theorem k0_off10_inb : ∀ (v123 : BitVec 32) (k0_hw10 : k0_chk10 v123), ∀ a, (k0_off10 v123) a + S1x1x64.size a ≤ S1x2048x64.size a := fun v123 k0_hw10 => k0_hw10

def k0_off11 (v136 : BitVec 32) : Fin 3 → Nat :=
  let c0_115 : Index := 0#32
  let v139 : Index := Scalar.indexCast v136
  let c0_116 : Index := 0#32
  ![0, v139.toNat, 0]

def k0_chk11 (v136 : BitVec 32) : Prop :=
  (∀ a, (k0_off11 v136) a + S1x1x64.size a ≤ S1x2048x64.size a)
theorem k0_off11_inb : ∀ (v136 : BitVec 32) (k0_hw11 : k0_chk11 v136), ∀ a, (k0_off11 v136) a + S1x1x64.size a ≤ S1x2048x64.size a := fun v136 k0_hw11 => k0_hw11

def k0_off12 (v149 : BitVec 32) : Fin 3 → Nat :=
  let c0_125 : Index := 0#32
  let v152 : Index := Scalar.indexCast v149
  let c0_126 : Index := 0#32
  ![0, v152.toNat, 0]

def k0_chk12 (v149 : BitVec 32) : Prop :=
  (∀ a, (k0_off12 v149) a + S1x1x64.size a ≤ S1x2048x64.size a)
theorem k0_off12_inb : ∀ (v149 : BitVec 32) (k0_hw12 : k0_chk12 v149), ∀ a, (k0_off12 v149) a + S1x1x64.size a ≤ S1x2048x64.size a := fun v149 k0_hw12 => k0_hw12

def k0_off13 (v162 : BitVec 32) : Fin 3 → Nat :=
  let c0_135 : Index := 0#32
  let v165 : Index := Scalar.indexCast v162
  let c0_136 : Index := 0#32
  ![0, v165.toNat, 0]

def k0_chk13 (v162 : BitVec 32) : Prop :=
  (∀ a, (k0_off13 v162) a + S1x1x64.size a ≤ S1x2048x64.size a)
theorem k0_off13_inb : ∀ (v162 : BitVec 32) (k0_hw13 : k0_chk13 v162), ∀ a, (k0_off13 v162) a + S1x1x64.size a ≤ S1x2048x64.size a := fun v162 k0_hw13 => k0_hw13

def k0_off14 (v175 : BitVec 32) : Fin 3 → Nat :=
  let c0_145 : Index := 0#32
  let v178 : Index := Scalar.indexCast v175
  let c0_146 : Index := 0#32
  ![0, v178.toNat, 0]

def k0_chk14 (v175 : BitVec 32) : Prop :=
  (∀ a, (k0_off14 v175) a + S1x1x64.size a ≤ S1x2048x64.size a)
theorem k0_off14_inb : ∀ (v175 : BitVec 32) (k0_hw14 : k0_chk14 v175), ∀ a, (k0_off14 v175) a + S1x1x64.size a ≤ S1x2048x64.size a := fun v175 k0_hw14 => k0_hw14

def k0_off15 (v188 : BitVec 32) : Fin 3 → Nat :=
  let c0_155 : Index := 0#32
  let v191 : Index := Scalar.indexCast v188
  let c0_156 : Index := 0#32
  ![0, v191.toNat, 0]

def k0_chk15 (v188 : BitVec 32) : Prop :=
  (∀ a, (k0_off15 v188) a + S1x1x64.size a ≤ S1x2048x64.size a)
theorem k0_off15_inb : ∀ (v188 : BitVec 32) (k0_hw15 : k0_chk15 v188), ∀ a, (k0_off15 v188) a + S1x1x64.size a ≤ S1x2048x64.size a := fun v188 k0_hw15 => k0_hw15

def k0_off16 (v201 : BitVec 32) : Fin 3 → Nat :=
  let c0_165 : Index := 0#32
  let v204 : Index := Scalar.indexCast v201
  let c0_166 : Index := 0#32
  ![0, v204.toNat, 0]

def k0_chk16 (v201 : BitVec 32) : Prop :=
  (∀ a, (k0_off16 v201) a + S1x1x64.size a ≤ S1x2048x64.size a)
theorem k0_off16_inb : ∀ (v201 : BitVec 32) (k0_hw16 : k0_chk16 v201), ∀ a, (k0_off16 v201) a + S1x1x64.size a ≤ S1x2048x64.size a := fun v201 k0_hw16 => k0_hw16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference.lean ====
abbrev S8x32x2048x64 : Shape := ⟨4, ![8, 32, 2048, 64]⟩
abbrev S16 : Shape := ⟨1, ![16]⟩
abbrev S8x32x16x64 : Shape := ⟨4, ![8, 32, 16, 64]⟩
abbrev S_ : Shape := ⟨0, ![]⟩
abbrev S16x1 : Shape := ⟨2, ![16, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x32x2048x64, .f32⟩
  | .hbm, ⟨1, _⟩ => ⟨S8x32x2048x64, .f32⟩
  | .hbm, ⟨2, _⟩ => ⟨S16, .i32⟩
  | .hbm, ⟨3, _⟩ => ⟨S8x32x16x64, .f32⟩
  | .hbm, ⟨4, _⟩ => ⟨S8x32x16x64, .f32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S8x32x2048x64, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S8x32x2048x64, .f32⟩
  | _, _ => ⟨S8x32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Merge.lean ====
/- The mathematics of the cache update, apart from any program: rows of new values put at given positions of a cache, a later row
   over an earlier one where two positions agree. `merged` is the whole result; the host scatter that sets computes it
   (`scatter_eq_merged`). -/
module

public import Idealize.ShloMosaic.Lib.Routing.OpsSet
public import Idealize.ShloMosaic.Lib.LaneScatter.Pure

@[expose] public section

namespace CacheRows

open Idealize.ShloMosaic Idealize.ShloMosaic.ValueIdx Idealize.ShloMosaic.LaneScatter Idealize.ShloMosaic.Routing

/-- The cache: batch, head, position, feature. -/
abbrev Cache : Shape := ⟨4, ![8, 32, 2048, 64]⟩
/-- The new rows: batch, head, row, feature. -/
abbrev NewRows : Shape := ⟨4, ![8, 32, 16, 64]⟩
/-- One position for each new row. -/
abbrev Positions : Shape := ⟨1, ![16]⟩

/-- The position of new row `q`. -/
def place (pos : IVec Positions 32) (q : ℕ) : ℕ := (pos (ix1 (Fin.ofNat 16 q))).toNat

/-- The cache after the update: at each element the last new row whose position is the element's, or the old element when there is
    none. -/
def merged {α : Type} (pos : IVec Positions 32) (old : Cache.Idx → α) (new : NewRows.Idx → α) : Cache.Idx → α := fun i =>
  lastHit (fun q => place pos q = (i 2).val) (fun q => new (ix4 (i 0) (i 1) (Fin.ofNat 16 q) (i 3))) (old i) 16

/-! ## A fold that keeps the last hit -/

/-- A left fold that takes the value at each hit ends with the value of a hit after which the list has no other. -/
theorem foldl_of_last {ι α : Type} (hit : ι → Prop) [DecidablePred hit] (val : ι → α) (l₁ l₂ : List ι) (n : ι) (a : α) (hn : hit n)
    (hl : ∀ k ∈ l₂, ¬ hit k) : (l₁ ++ n :: l₂).foldl (fun r k => if hit k then val k else r) a = val n := by
  rw [List.foldl_append, List.foldl_cons, if_pos hn]
  generalize val n = v
  induction l₂ with
  | nil => rfl
  | cons k l ih =>
    rw [List.foldl_cons, if_neg (hl k List.mem_cons_self)]
    exact ih fun k' hk' => hl k' (List.mem_cons_of_mem _ hk')

/-- Over the numbers below `N` in order: the value of the greatest hit. -/
theorem foldl_finRange_of_last {N : ℕ} {α : Type} (hit : Fin N → Prop) [DecidablePred hit] (val : Fin N → α) (n : Fin N) (a : α)
    (hn : hit n) (hl : ∀ k, n < k → ¬ hit k) : (List.finRange N).foldl (fun r k => if hit k then val k else r) a = val n := by
  obtain ⟨l₁, l₂, e⟩ := List.append_of_mem (List.mem_finRange n)
  have hp : (l₁ ++ n :: l₂).Pairwise (· < ·) := e ▸ List.pairwise_lt_finRange N
  rw [e]
  exact foldl_of_last hit val l₁ l₂ n a hn fun k hk => hl k (List.rel_of_pairwise_cons (List.pairwise_append.1 hp).2.1 hk)

/-- A scatter that sets, read at an element at which update `k` lands and no update after it in row-major order does: update `k`. -/
theorem scatter_of_last {α : Type} {s si u : Shape} {w : Nat} (d : ScatterDims s si u) (x0 : s.Idx → α) (idx : IVec si w) (upd : u.Idx → α)
    (ι : s.Idx) (k : u.Idx) (hk : d.resultIdx? k idx = some ι)
    (hl : ∀ j : u.Idx, (u.rowMajor k).val < (u.rowMajor j).val → d.resultIdx? j idx ≠ some ι) :
    Host.scatter d (fun _ b => b) x0 idx upd ι = upd k := by
  rw [scatter_at, foldl_finRange_of_last (fun n => d.resultIdx? (u.rowMajor.symm n) idx = some ι) (fun n => upd (u.rowMajor.symm n))
    (u.rowMajor k) _ (by rw [Equiv.symm_apply_apply]; exact hk)
    (fun n hn => hl _ (by rw [Equiv.apply_symm_apply]; exact hn)), Equiv.symm_apply_apply]

/-! ## The scatter of rows -/

section Scatter

variable (d : ScatterDims Cache ⟨2, ![16, 1]⟩ NewRows) (huw : d.updateWindowDims = [0, 1, 3]) (hiw : d.insertedWindowDims = [2])
  (hsd : d.scatterDimsToOperandDims = [2]) (hiv : d.indexVectorDim = 1)

include huw hiw hsd hiv

/-- New row element `(b, h, q, e)` lands at the cache's `(b, h, p, e)`, `p` the position word of `q` read signed. -/
theorem lands_iff (idx : IVec ⟨2, ![16, 1]⟩ 32) (j : NewRows.Idx) (ι : Cache.Idx) :
    d.resultIdx? j idx = some ι
      ↔ (j 0).val = (ι 0).val ∧ (j 1).val = (ι 1).val ∧ (idx (ix2 (j 2) (0 : Fin 1))).toInt = ((ι 2).val : Int) ∧ (j 3).val = (ι 3).val := by
  obtain ⟨uw, iw, sd, iv, wf⟩ := d
  obtain rfl : uw = [0, 1, 3] := huw
  obtain rfl : iw = [2] := hiw
  obtain rfl : sd = [2] := hsd
  obtain rfl : iv = 1 := hiv
  rw [resultIdx?_eq_some]
  set D : ScatterDims Cache ⟨2, ![16, 1]⟩ NewRows := ⟨[0, 1, 3], [2], [2], 1, wf⟩ with hD
  have w0 : D.window j 0 = (j 0).val := rfl
  have w1 : D.window j 1 = (j 1).val := rfl
  have w2 : D.window j 2 = 0 := rfl
  have w3 : D.window j 3 = (j 3).val := rfl
  have s0 : D.start j idx 0 = 0 := rfl
  have s1 : D.start j idx 1 = 0 := rfl
  have s3 : D.start j idx 3 = 0 := rfl
  have s2 : D.start j idx 2 = (idx (ix2 (j 2) (0 : Fin 1))).toInt := by
    show (idx (D.siIdx j _)).toInt = _
    congr 2
    funext a
    apply Fin.ext
    match a with
    | ⟨0, _⟩ => rfl
    | ⟨1, _⟩ => rfl
  constructor
  · intro h
    have h0 := h 0
    have h1 := h 1
    have h2 := h 2
    have h3 := h 3
    rw [s0, w0] at h0
    rw [s1, w1] at h1
    rw [s2, w2] at h2
    rw [s3, w3] at h3
    refine ⟨by omega, by omega, by omega, by omega⟩
  · rintro ⟨h0, h1, h2, h3⟩ a
    match a with
    | ⟨0, _⟩ => show D.start j idx 0 + (D.window j 0 : Int) = ((ι 0).val : Int); rw [s0, w0]; omega
    | ⟨1, _⟩ => show D.start j idx 1 + (D.window j 1 : Int) = ((ι 1).val : Int); rw [s1, w1]; omega
    | ⟨2, _⟩ => show D.start j idx 2 + (D.window j 2 : Int) = ((ι 2).val : Int); rw [s2, w2]; omega
    | ⟨3, _⟩ => show D.start j idx 3 + (D.window j 3 : Int) = ((ι 3).val : Int); rw [s3, w3]; omega

/-- The scatter that sets, its index words the positions and each of them below the sign bit, is `merged`: in row-major order the
    elements of one batch, head and feature come in the order of their rows. -/
theorem scatter_eq_merged {α : Type} (pos : IVec Positions 32) (hpos : ∀ q, (pos q).toNat < 2048) (idx : IVec ⟨2, ![16, 1]⟩ 32)
    (hidx : ∀ q : Fin 16, idx (ix2 q (0 : Fin 1)) = pos (ix1 q)) (old : Cache.Idx → α) (new : NewRows.Idx → α) :
    Host.scatter d (fun _ b => b) old idx new = merged pos old new := by
  funext i
  have word : ∀ q : Fin 16, (idx (ix2 q (0 : Fin 1))).toInt = ((place pos q.val : ℕ) : Int) := fun q => by
    rw [hidx]
    have hq : Fin.ofNat 16 q.val = q := Fin.ext (Nat.mod_eq_of_lt q.isLt)
    unfold place
    rw [hq]
    exact WordCmp.toInt_eq_toNat_of_lt_half (Nat.lt_trans (hpos _) (by decide))
  have lands := lands_iff d huw hiw hsd hiv idx
  unfold merged
  rcases lastHit_cases (fun q => place pos q = (i 2).val) (fun q => new (ix4 (i 0) (i 1) (Fin.ofNat 16 q) (i 3))) (old i) 16 with
    ⟨k, hk, hh, hl, hv⟩ | ⟨hn, hv⟩
  · have hk' : (Fin.ofNat 16 k : Fin 16).val = k := Nat.mod_eq_of_lt hk
    rw [hv]
    refine scatter_of_last d old idx new i (ix4 (i 0) (i 1) (Fin.ofNat 16 k) (i 3)) ?_ fun j hj hc => ?_
    · rw [lands]
      refine ⟨rfl, rfl, ?_, rfl⟩
      show (idx (ix2 (Fin.ofNat 16 k) (0 : Fin 1))).toInt = _
      rw [word, hk', hh]
    · obtain ⟨h0, h1, h2, h3⟩ := (lands j i).1 hc
      have h2 : ((place pos (j 2).val : ℕ) : Int) = ((i 2).val : Int) := (word (j 2)).symm.trans h2
      have hle : (j 2).val ≤ k := by
        by_contra hlt
        exact hl (j 2).val (by omega) (j 2).isLt (by exact_mod_cast h2)
      rw [Shape.rowMajor_val_four, Shape.rowMajor_val_four] at hj
      change (((i 0).val * 32 + (i 1).val) * 16 + (Fin.ofNat 16 k : Fin 16).val) * 64 + (i 3).val
        < (((j 0).val * 32 + (j 1).val) * 16 + (j 2).val) * 64 + (j 3).val at hj
      rw [hk'] at hj
      omega
  · rw [hv]
    refine scatter_set_miss d old idx new i fun j hc => ?_
    have h2 : ((place pos (j 2).val : ℕ) : Int) = ((i 2).val : Int) := (word (j 2)).symm.trans ((lands j i).1 hc).2.2.1
    exact hn (j 2).val (j 2).isLt (by exact_mod_cast h2)

/-- The same with the index words as jnp prints them, a negative position counted from the end: no position is negative here. -/
theorem scatter_wrapped_eq_merged {α : Type} (pos : IVec Positions 32) (hpos : ∀ q, (pos q).toNat < 2048)
    (h0 : (⟨0, ![]⟩ : Shape).BroadcastsInDim Positions (![] : Fin 0 → Fin Positions.rank))
    (h1 : Positions.BroadcastsInDim (⟨2, ![16, 1]⟩ : Shape) (![0] : Fin 1 → Fin 2)) (old : Cache.Idx → α) (new : NewRows.Idx → α) :
    Host.scatter d (fun _ b => b) old (broadcastInDim ⟨2, ![16, 1]⟩ ![0] h1
      (select (cmpi .slt pos (broadcastInDim Positions ![] h0 (constantI ⟨0, ![]⟩ 32 0#32)))
        (addi pos (broadcastInDim Positions ![] h0 (constantI ⟨0, ![]⟩ 32 2048#32))) pos)) new = merged pos old new := by
  refine scatter_eq_merged d huw hiw hsd hiv pos hpos _ (fun q => ?_) old new
  unfold broadcastInDim
  have e : (fun a : Fin 1 => if h : Positions.size a = 1 then (⟨0, by omega⟩ : Fin (Positions.size a))
      else ⟨((ix2 q (0 : Fin 1) : Shape.Idx ⟨2, ![16, 1]⟩) ((![0] : Fin 1 → Fin 2) a)).val, by
        match a with
        | ⟨0, _⟩ => exact q.isLt⟩) = (ix1 q : Positions.Idx) := by
    funext a
    match a with
    | ⟨0, _⟩ => rfl
  refine Eq.trans (congrArg _ e) ?_
  exact wrap_of_lt _ _ (lt_trans (hpos _) (by decide))

end Scatter

end CacheRows
-- ==== Proof.Positions.lean ====
/- The precondition, read: every position is below the cache's length. -/
module

public import proofs.«01_k».proof.Pre_positions_in_range
public import proofs.«01_k».proof.Proof.Gen.Pre_positions_in_range
public import proofs.«01_k».proof.Proof.Merge
public import Idealize.ShloMosaic.Lib.ReduceAll
public import Idealize.ShloMosaic.Lib.WordCmp

@[expose] public section

namespace CacheRows

open Idealize.ShloMosaic Idealize.ShloMosaic.ValueIdx

/-- Where the precondition's function is all ones, every position is below 2048. -/
theorem lt_of_pre {F : FTy → Type} [FloatOps F] (x0 x1 : FVec F Cache .f32) (pos : IVec Positions 32) (x3 x4 : FVec F NewRows .f32)
    (h : Cert.Pre_positions_in_range.fn (F := F) x0 x1 pos x3 x4 = fun _ => 1#1) (q : Positions.Idx) : (pos q).toNat < 2048 := by
  have e := congrFun h (fun a => a.elim0)
  haveI : Subsingleton Cert.Pre_positions_in_range.S_.Idx := ⟨fun a b => funext fun i => i.elim0⟩
  have e' := Host.reduce_andi_all _ _ _ _ _ e q
  have e'' : IntOp.andi (IntOp.cmpi .sge (pos q) 0#32) (IntOp.cmpi .slt (pos q) 2048#32) = 1#1 := e'
  rw [WordCmp.andi_sge_zero_slt_ofNat (w := 32) (k := 2048) (by decide)] at e''
  simpa using (WordCmp.ofBool_decide_eq_one_iff _).1 e''

end CacheRows
-- ==== Proof.Pieces.lean ====
/- One row stored over a block, read back: the step by which sixteen stores, one after another, become `lastHit`. -/
module

public import Idealize.ShloMosaic.Lib.Pipeline.ValueKit
public import Idealize.ShloMosaic.Lib.LaneScatter.Pure
public import proofs.«01_k».proof.Proof.Merge

@[expose] public section

namespace CacheRows

open Idealize.ShloMosaic Idealize.ShloMosaic.LaneScatter

/-- One head's block of the cache. -/
abbrev Block : Shape := ⟨3, ![1, 2048, 64]⟩
/-- One head's block of the new rows. -/
abbrev RowBlock : Shape := ⟨3, ![1, 16, 64]⟩
/-- One row. -/
abbrev Row : Shape := ⟨3, ![1, 1, 64]⟩

variable {sig : RefSig} {κ : Kind} {sp : Space} {e : EltTy} {Val : EltTy → Type}

/-- A row stored at position `w`, over stores that read `lastHit` of the first `n`: `lastHit` of the first `n + 1`. -/
theorem read_store_row (v : View sig κ sp Block e) (f : v.ty.Contents Val) (hit : ℕ → Prop) [DecidablePred hit] (val : ℕ → Val e)
    (fill : Val e) (n : ℕ) (off : Fin 3 → ℕ) (inb : ∀ a, off a + Row.size a ≤ Block.size a) (pay : Row.Idx → Val e)
    (L : List (View.Piece Val Block e)) (p : Fin 2048) (d : Fin 64) (w : ℕ) (hoff : off = ![0, w, 0]) (hw : w = p.val ↔ hit n)
    (hpay : pay (ValueIdx.ix3 (0 : Fin 1) (0 : Fin 1) d) = val n)
    (hL : v.read Val (v.writes Val f L) (ValueIdx.ix3 (0 : Fin 1) p d) = lastHit hit val fill n) :
    v.read Val (v.writes Val f (⟨Rect.unit (s := Block) off Row.size inb, pay⟩ :: L)) (ValueIdx.ix3 (0 : Fin 1) p d) = lastHit hit val fill (n + 1) := by
  subst hoff
  show _ = if hit n then val n else lastHit hit val fill n
  by_cases h : w = p.val
  · rw [if_pos (hw.1 h), ← hpay]
    refine View.read_writes_cons_hit_of_coords v f (Rect.unit (s := Block) ![0, w, 0] Row.size inb) pay L (ValueIdx.ix3 (0 : Fin 1) (0 : Fin 1) d) _ fun a => ?_
    match a with
    | ⟨0, _⟩ => rfl
    | ⟨1, _⟩ => show p.val = w + 1 * 0; omega
    | ⟨2, _⟩ => show d.val = 0 + 1 * d.val; omega
  · rw [if_neg (mt hw.2 h), ← hL]
    refine View.read_writes_cons_miss_of_axis v f _ L _ (1 : Fin 3) w 1 rfl rfl rfl ?_
    show p.val < w ∨ w + 1 ≤ p.val
    omega

/-- The whole block stored first: what it holds. -/
theorem read_store_block (v : View sig κ sp Block e) (f : v.ty.Contents Val) (hit : ℕ → Prop) [DecidablePred hit] (val : ℕ → Val e)
    (fill : Val e) (inb : ∀ a, (![0, 0, 0] : Fin 3 → ℕ) a + Block.size a ≤ Block.size a) (pay : Block.Idx → Val e)
    (p : Fin 2048) (d : Fin 64) (hpay : pay (ValueIdx.ix3 (0 : Fin 1) p d) = fill) :
    v.read Val (v.writes Val f [⟨Rect.unit (s := Block) ![0, 0, 0] Block.size inb, pay⟩]) (ValueIdx.ix3 (0 : Fin 1) p d) = lastHit hit val fill 0 := by
  refine (View.read_writes_cons_hit_of_coords v f (Rect.unit (s := Block) ![0, 0, 0] Block.size inb) pay [] (ValueIdx.ix3 (0 : Fin 1) p d) _ fun a => ?_).trans hpay
  match a with
  | ⟨0, _⟩ => rfl
  | ⟨1, _⟩ => show p.val = 0 + 1 * p.val; omega
  | ⟨2, _⟩ => show d.val = 0 + 1 * d.val; omega

/-- A row loaded from a block of new rows that holds `X`: row `k` of `X`. -/
theorem load_row (mr : Memref sig κ sp RowBlock e) (h : mr.IsWhole) (X : RowBlock.Idx → Val e) (k : ℕ) (hk : k < 16)
    (inb : ∀ a, (![0, k, 0] : Fin 3 → ℕ) a + Row.size a ≤ RowBlock.size a) (d : Fin 64) :
    mr.view.readAt Val (Rect.unit (s := RowBlock) ![0, k, 0] Row.size inb).toLoadRect (h.unread X) (ValueIdx.ix3 (0 : Fin 1) (0 : Fin 1) d)
      = X (ValueIdx.ix3 (0 : Fin 1) (Fin.ofNat 16 k) d) := by
  rw [View.readAt_apply, Memref.IsWhole.read_unread]
  congr 1
  funext a
  match a with
  | ⟨0, _⟩ => rfl
  | ⟨1, _⟩ => exact Fin.ext (show k + 1 * 0 = k % 16 by omega)
  | ⟨2, _⟩ => exact Fin.ext (show 0 + 1 * d.val = d.val by omega)

/-- A whole block loaded from a memref that holds `X`: `X`. -/
theorem load_block (mr : Memref sig κ sp Block e) (h : mr.IsWhole) (X : Block.Idx → Val e)
    (inb : ∀ a, (![0, 0, 0] : Fin 3 → ℕ) a + Block.size a ≤ Block.size a) (p : Fin 2048) (d : Fin 64) :
    mr.view.readAt Val (Rect.unit (s := Block) ![0, 0, 0] Block.size inb).toLoadRect (h.unread X) (ValueIdx.ix3 (0 : Fin 1) p d)
      = X (ValueIdx.ix3 (0 : Fin 1) p d) := by
  rw [View.readAt_apply, Memref.IsWhole.read_unread]
  congr 1
  funext a
  match a with
  | ⟨0, _⟩ => rfl
  | ⟨1, _⟩ => exact Fin.ext (show 0 + 1 * p.val = p.val by omega)
  | ⟨2, _⟩ => exact Fin.ext (show 0 + 1 * d.val = d.val by omega)

/-- An element a view places lies in the view. -/
theorem mem_set_of_emb_eq {s : Shape} (v : View sig κ sp s e) (x : s.Idx) (i : v.ty.Idx) (h : v.emb x = i) : i ∈ v.set :=
  h ▸ v.emb_mem_set x

end CacheRows
-- ==== Proof.Stack.lean ====
/- The cache with batch and head on one axis: the update there, and its reshape back. -/
module

public import proofs.«01_k».proof.Proof.Merge

@[expose] public section

namespace CacheRows

open Idealize.ShloMosaic Idealize.ShloMosaic.ValueIdx Idealize.ShloMosaic.LaneScatter

/-- Batch and head apart, `n` rows a head. -/
abbrev Apart (n : ℕ) : Shape := ⟨4, ![8, 32, n, 64]⟩
/-- Batch and head on one axis, `n` rows a head. -/
abbrev Stacked (n : ℕ) : Shape := ⟨3, ![256, n, 64]⟩

/-- The update with batch and head on one axis. -/
def mergedStack {α : Type} (pos : IVec Positions 32) (old : (Stacked 2048).Idx → α) (new : (Stacked 16).Idx → α) : (Stacked 2048).Idx → α := fun y =>
  lastHit (fun q => place pos q = (y 1).val) (fun q => new (ix3 (y 0) (Fin.ofNat 16 q) (y 2))) (old y) 16

/-- The number of head `h` of batch `b`. -/
def headNo (b : Fin 8) (h : Fin 32) : Fin 256 := ⟨b.val * 32 + h.val, by omega⟩

/-- Read off a stack: the element of its batch and head. -/
theorem stack_at {α : Type} {n : ℕ} (x : (Apart n).Idx → α) (hc : (Apart n).ShapeCasts (Stacked n)) (b : Fin 8) (h : Fin 32) (r : Fin n) (e : Fin 64) :
    shapeCast (Stacked n) x hc (ix3 (headNo b h) r e) = x (ix4 b h r e) := by
  refine congrArg x (Shape.reshapeEquiv_eq_of_rowMajor _ ?_)
  rw [Shape.rowMajor_val_three, Shape.rowMajor_val_four]
  rfl

/-- Read off the reshape back: the element of its head's number. -/
theorem apart_at {α : Type} {n : ℕ} (x : (Stacked n).Idx → α) (hc : (Stacked n).ShapeCasts (Apart n)) (b : Fin 8) (h : Fin 32) (r : Fin n) (e : Fin 64) :
    shapeCast (Apart n) x hc (ix4 b h r e) = x (ix3 (headNo b h) r e) := by
  refine congrArg x (Shape.reshapeEquiv_eq_of_rowMajor _ ?_)
  rw [Shape.rowMajor_val_three, Shape.rowMajor_val_four]
  rfl

/-- The update on the stack of the arguments, reshaped back, is `merged`. -/
theorem apart_mergedStack {α : Type} (pos : IVec Positions 32) (old : Cache.Idx → α) (new : NewRows.Idx → α)
    (h : Cache.ShapeCasts (Stacked 2048)) (h' : NewRows.ShapeCasts (Stacked 16)) (h'' : (Stacked 2048).ShapeCasts Cache) :
    shapeCast Cache (mergedStack pos (shapeCast (Stacked 2048) old h) (shapeCast (Stacked 16) new h')) h'' = merged pos old new := by
  funext i
  have e : i = ix4 (i 0) (i 1) (i 2) (i 3) := eq_ix4 i
  rw [e]
  refine (apart_at (n := 2048) _ h'' (i 0) (i 1) (i 2) (i 3)).trans ?_
  unfold mergedStack merged
  refine Eq.trans ?_ (congrArg (fun f => lastHit _ f _ 16) (funext fun q => stack_at (n := 16) new h' (i 0) (i 1) (Fin.ofNat 16 q) (i 3)))
  exact congrArg (fun f => lastHit _ _ f 16) (stack_at (n := 2048) old h (i 0) (i 1) (i 2) (i 3))

end CacheRows
-- ==== Proof.KIdealRows.lean ====
/- The run of the kernel `Kernel`: what the region's body leaves, the arrays the region leaves, both results. -/
module

public import proofs.«01_k».proof.Proof.Gen.KernelIdeal.Frame
public import proofs.«01_k».proof.Proof.Merge
public import proofs.«01_k».proof.Proof.Pieces
public import proofs.«01_k».proof.Proof.Stack
public import Idealize.ShloMosaic.Lib.Pipeline.ValueKit

@[expose] public section

set_option maxRecDepth 16384

noncomputable section

namespace Cert.KernelIdeal.Rows

open Cert.KernelIdeal Cert.KernelIdeal.Gen Idealize.ShloMosaic Idealize.ShloMosaic.TcCoe Idealize.SL.Sem Idealize.ShloMosaic.Pipeline
open CacheRows Idealize.ShloMosaic.LaneScatter

variable {F : FTy → Type} [FloatOps F]

/-! ## The side conditions from the positions' range -/

/-- A word loaded from the table of positions: the table's word. -/
theorem word_at (pos : IVec Positions 32) (k : ℕ) (hk : k < 16) (inb : ∀ a, (![k] : Fin 1 → ℕ) a + S1.size a ≤ S16.size a) (h : 0 < S1.numel) :
    (tbM0_0.view.readAt (Elt F) (Rect.unit (s := S16) ![k] S1.size inb).toLoadRect pos (Shape.Idx.first h) : BitVec 32)
      = pos (ValueIdx.ix1 (Fin.ofNat 16 k)) := by
  rw [View.readAt_apply]
  show pos _ = pos _
  congr 1
  funext a
  match a with
  | ⟨0, _⟩ => exact Fin.ext (show k + 1 * 0 = k % 16 by omega)

/-- The offsets of the store at a loaded position. -/
theorem off_at (pos : IVec Positions 32) (k : ℕ) (hk : k < 16) (inb : ∀ a, (![k] : Fin 1 → ℕ) a + S1.size a ≤ S16.size a) (h : 0 < S1.numel) :
    (![0, (Scalar.indexCast (tbM0_0.view.readAt (Elt F) (Rect.unit (s := S16) ![k] S1.size inb).toLoadRect pos (Shape.Idx.first h) : BitVec 32)).toNat, 0] : Fin 3 → ℕ)
      = ![0, place pos k, 0] := by
  rw [word_at pos k hk]
  rfl

/-- A row at a position below the cache's length lies inside the block. -/
theorem row_inb (w : BitVec 32) (h : w.toNat < 2048) : ∀ a, (![0, (Scalar.indexCast w).toNat, 0] : Fin 3 → ℕ) a + S1x1x64.size a ≤ S1x2048x64.size a := by
  intro a
  match a with
  | ⟨0, _⟩ => exact Nat.le_refl 1
  | ⟨1, _⟩ => show w.toNat + 1 ≤ 2048; omega
  | ⟨2, _⟩ => exact Nat.le_refl 64

variable (m : (ℓ : Loc nD τ sig) → Buf (Elt F) ℓ) (ρ : Dev nD → PrngReg)

theorem ok : Ok m := by trivial

/-- The side conditions the body assumes hold when every position is below the cache's length. -/
theorem hyps (hO : Ok m) (hpos : ∀ q : Positions.Idx, (tbl m 0 q : BitVec 32).toNat < 2048) : Hyps m hO := by
  intro c t
  refine ⟨?_, ?_, ?_, ?_, ?_, ?_, ?_, ?_, ?_, ?_, ?_, ?_, ?_, ?_, ?_, ?_⟩ <;>
    exact row_inb _ (hpos _)

/-! ## What the body leaves -/

/-- The first result's block at point `t`: the first cache's block with its new rows put in. -/
theorem outs_fst (hO : Ok m) (hH : Hyps m hO) (c : Dev nD) (t : Fin (cfgM m hO).N) (p : Fin 2048) (d : Fin 64) :
    (outsAt0 m hO hH c t).1 (ValueIdx.ix3 (0 : Fin 1) p d)
      = lastHit (fun q => place (tbl m 0) q = p.val) (fun q => (iblk m hO c 2 t : Vec F S1x16x64 .f32) (ValueIdx.ix3 (0 : Fin 1) (Fin.ofNat 16 q) d))
          ((iblk m hO c 0 t : Vec F S1x2048x64 .f32) (ValueIdx.ix3 (0 : Fin 1) p d)) 16 := by
  unfold outsAt0 out0_A_4
  unfold kernelRun0_A
  dsimp only
  sl_unfold_words
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, shapeCast_shapeCast, shapeCast_self]
  iterate 16
    refine read_store_row _ _ _ _ _ _ _ _ _ _ p d (place (tbl m 0) _) ?_ Iff.rfl ?_ ?_
    · exact off_at (tbl m 0) _ (by decide) _ _
    · exact load_row _ _ _ _ (by decide) _ d
  exact read_store_block _ _ _ _ _ _ _ p d (load_block _ _ _ _ p d)

/-- The second result's block at point `t`: the second cache's block with its new rows put in. -/
theorem outs_snd (hO : Ok m) (hH : Hyps m hO) (c : Dev nD) (t : Fin (cfgM m hO).N) (p : Fin 2048) (d : Fin 64) :
    (outsAt0 m hO hH c t).2 (ValueIdx.ix3 (0 : Fin 1) p d)
      = lastHit (fun q => place (tbl m 0) q = p.val) (fun q => (iblk m hO c 3 t : Vec F S1x16x64 .f32) (ValueIdx.ix3 (0 : Fin 1) (Fin.ofNat 16 q) d))
          ((iblk m hO c 1 t : Vec F S1x2048x64 .f32) (ValueIdx.ix3 (0 : Fin 1) p d)) 16 := by
  unfold outsAt0 out0_A_5
  unfold kernelRun0_A
  dsimp only
  sl_unfold_words
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, shapeCast_shapeCast, shapeCast_self]
  iterate 16
    refine read_store_row _ _ _ _ _ _ _ _ _ _ p d (place (tbl m 0) _) ?_ Iff.rfl ?_ ?_
    · exact off_at (tbl m 0) _ (by decide) _ _
    · exact load_row _ _ _ _ (by decide) _ d
  exact read_store_block _ _ _ _ _ _ _ p d (load_block _ _ _ _ p d)

/-! ## Where the blocks sit -/

/-- The grid's one coordinate at a point, as the index maps compute it. -/
theorem point_val : ∀ t : Fin grid0.N, (BitVec.ofNat 32 (grid0.coords t 0).val).toNat = t.val := by decide +kernel

/-- A point as a head's number. -/
def headOf (t : Fin grid0.N) : Fin 256 := t.cast N_0

theorem emb_0 (hO : Ok m) (t : Fin (cfgM m hO).N) (y : Shape.Idx ⟨3, ![1, 2048, 64]⟩) :
    ((((cfgM m hO).win 0).blk t).view.emb y : Shape.Idx ⟨3, ![256, 2048, 64]⟩) = ValueIdx.ix3 (headOf t) (y 1) (y 2) := by
  have h := point_val t
  have h0 : (y 0).val < 1 := (y 0).isLt
  funext a
  match a with
  | ⟨0, _⟩ => exact Fin.ext (show (BitVec.ofNat 32 (grid0.coords t 0).val).toNat * 1 + 1 * (y 0).val = t.val by omega)
  | ⟨1, _⟩ => exact Fin.ext (show 0 * 2048 + 1 * (y 1).val = (y 1).val by omega)
  | ⟨2, _⟩ => exact Fin.ext (show 0 * 64 + 1 * (y 2).val = (y 2).val by omega)

theorem emb_1 (hO : Ok m) (t : Fin (cfgM m hO).N) (y : Shape.Idx ⟨3, ![1, 2048, 64]⟩) :
    ((((cfgM m hO).win 1).blk t).view.emb y : Shape.Idx ⟨3, ![256, 2048, 64]⟩) = ValueIdx.ix3 (headOf t) (y 1) (y 2) := by
  have h := point_val t
  have h0 : (y 0).val < 1 := (y 0).isLt
  funext a
  match a with
  | ⟨0, _⟩ => exact Fin.ext (show (BitVec.ofNat 32 (grid0.coords t 0).val).toNat * 1 + 1 * (y 0).val = t.val by omega)
  | ⟨1, _⟩ => exact Fin.ext (show 0 * 2048 + 1 * (y 1).val = (y 1).val by omega)
  | ⟨2, _⟩ => exact Fin.ext (show 0 * 64 + 1 * (y 2).val = (y 2).val by omega)

theorem emb_2 (hO : Ok m) (t : Fin (cfgM m hO).N) (y : Shape.Idx ⟨3, ![1, 16, 64]⟩) :
    ((((cfgM m hO).win 2).blk t).view.emb y : Shape.Idx ⟨3, ![256, 16, 64]⟩) = ValueIdx.ix3 (headOf t) (y 1) (y 2) := by
  have h := point_val t
  have h0 : (y 0).val < 1 := (y 0).isLt
  funext a
  match a with
  | ⟨0, _⟩ => exact Fin.ext (show (BitVec.ofNat 32 (grid0.coords t 0).val).toNat * 1 + 1 * (y 0).val = t.val by omega)
  | ⟨1, _⟩ => exact Fin.ext (show 0 * 16 + 1 * (y 1).val = (y 1).val by omega)
  | ⟨2, _⟩ => exact Fin.ext (show 0 * 64 + 1 * (y 2).val = (y 2).val by omega)

theorem emb_3 (hO : Ok m) (t : Fin (cfgM m hO).N) (y : Shape.Idx ⟨3, ![1, 16, 64]⟩) :
    ((((cfgM m hO).win 3).blk t).view.emb y : Shape.Idx ⟨3, ![256, 16, 64]⟩) = ValueIdx.ix3 (headOf t) (y 1) (y 2) := by
  have h := point_val t
  have h0 : (y 0).val < 1 := (y 0).isLt
  funext a
  match a with
  | ⟨0, _⟩ => exact Fin.ext (show (BitVec.ofNat 32 (grid0.coords t 0).val).toNat * 1 + 1 * (y 0).val = t.val by omega)
  | ⟨1, _⟩ => exact Fin.ext (show 0 * 16 + 1 * (y 1).val = (y 1).val by omega)
  | ⟨2, _⟩ => exact Fin.ext (show 0 * 64 + 1 * (y 2).val = (y 2).val by omega)

theorem emb_4 (hO : Ok m) (t : Fin (cfgM m hO).N) (y : Shape.Idx ⟨3, ![1, 2048, 64]⟩) :
    ((((cfgM m hO).win 4).blk t).view.emb y : Shape.Idx ⟨3, ![256, 2048, 64]⟩) = ValueIdx.ix3 (headOf t) (y 1) (y 2) := by
  have h := point_val t
  have h0 : (y 0).val < 1 := (y 0).isLt
  funext a
  match a with
  | ⟨0, _⟩ => exact Fin.ext (show (BitVec.ofNat 32 (grid0.coords t 0).val).toNat * 1 + 1 * (y 0).val = t.val by omega)
  | ⟨1, _⟩ => exact Fin.ext (show 0 * 2048 + 1 * (y 1).val = (y 1).val by omega)
  | ⟨2, _⟩ => exact Fin.ext (show 0 * 64 + 1 * (y 2).val = (y 2).val by omega)

theorem emb_5 (hO : Ok m) (t : Fin (cfgM m hO).N) (y : Shape.Idx ⟨3, ![1, 2048, 64]⟩) :
    ((((cfgM m hO).win 5).blk t).view.emb y : Shape.Idx ⟨3, ![256, 2048, 64]⟩) = ValueIdx.ix3 (headOf t) (y 1) (y 2) := by
  have h := point_val t
  have h0 : (y 0).val < 1 := (y 0).isLt
  funext a
  match a with
  | ⟨0, _⟩ => exact Fin.ext (show (BitVec.ofNat 32 (grid0.coords t 0).val).toNat * 1 + 1 * (y 0).val = t.val by omega)
  | ⟨1, _⟩ => exact Fin.ext (show 0 * 2048 + 1 * (y 1).val = (y 1).val by omega)
  | ⟨2, _⟩ => exact Fin.ext (show 0 * 64 + 1 * (y 2).val = (y 2).val by omega)

/-! ## The arrays the region leaves -/

/-- The first result's block, as the update of the stacked cache. -/
theorem left_fst (hO : Ok m) (hH : Hyps m hO) (c : Dev nD) (t : Fin (cfgM m hO).N) (y : Block.Idx) :
    (outsAt0 m hO hH c t).1 y = mergedStack (tbl m 0) (V m c main_v0) (V m c main_v2) (ValueIdx.ix3 (headOf t) (y 1) (y 2)) := by
  have hy : y = ValueIdx.ix3 (0 : Fin 1) (y 1) (y 2) := by
    funext a
    match a with
    | ⟨0, _⟩ => exact Fin.ext (Nat.lt_one_iff.1 (y 0).isLt)
    | ⟨1, _⟩ => rfl
    | ⟨2, _⟩ => rfl
  refine (congrArg (outsAt0 m hO hH c t).1 hy).trans ((outs_fst m hO hH c t (y 1) (y 2)).trans ?_)
  have en : (fun q => (iblk m hO c 2 t : Vec F S1x16x64 .f32) (ValueIdx.ix3 (0 : Fin 1) (Fin.ofNat 16 q) (y 2)))
      = fun q => (V m c main_v2 : Vec F S256x16x64 .f32) (ValueIdx.ix3 (headOf t) (Fin.ofNat 16 q) (y 2)) :=
    funext fun q => congrArg (V m c main_v2) (emb_2 m hO t (ValueIdx.ix3 (0 : Fin 1) (Fin.ofNat 16 q) (y 2)))
  have eo : (iblk m hO c 0 t : Vec F S1x2048x64 .f32) (ValueIdx.ix3 (0 : Fin 1) (y 1) (y 2))
      = (V m c main_v0 : Vec F S256x2048x64 .f32) (ValueIdx.ix3 (headOf t) (y 1) (y 2)) :=
    congrArg (V m c main_v0) (emb_0 m hO t (ValueIdx.ix3 (0 : Fin 1) (y 1) (y 2)))
  rw [en, eo]
  rfl

/-- Every element of the first result's array lies in a block written back. -/
theorem cover_fst (hO : Ok m) (i : (Stacked 2048).Idx) :
    ∃ t : Fin (cfgM m hO).N, ((cfgM m hO).win 4).flush t = true ∧ i ∈ (((cfgM m hO).win 4).blk t).view.set := by
  refine ⟨(i 0).cast N_0.symm, flush0_4 _ _, ?_⟩
  have hx := emb_4 m hO ((i 0).cast N_0.symm) (ValueIdx.ix3 (0 : Fin 1) (i 1) (i 2))
  have hi : ValueIdx.ix3 (headOf ((i 0).cast N_0.symm)) (i 1) (i 2) = i := (ValueIdx.eq_ix3 i).symm
  exact mem_set_of_emb_eq (((cfgM m hO).win 4).blk ((i 0).cast N_0.symm)).view _ _ (hx.trans hi)

/-- The first result's array: the update of the stacked cache. -/
theorem arr_fst (hO : Ok m) (hH : Hyps m hO) (c : Dev nD) :
    (dats m hO hH 0 c).arrAt 4 (cfgM m hO).N = mergedStack (tbl m 0) (V m c main_v0) (V m c main_v2) := by
  refine (dats m hO hH 0 c).arrAt_eq_of_emb 4 _ (fun t _ y => ?_) (cover_fst m hO)
  show (dats m hO hH 0 c).after 4 t y = _
  rw [after0_4]
  exact (left_fst m hO hH c t y).trans (congrArg (mergedStack (tbl m 0) (V m c main_v0) (V m c main_v2)) (emb_4 m hO t y).symm)

/-- The second result's block, as the update of the stacked cache. -/
theorem left_snd (hO : Ok m) (hH : Hyps m hO) (c : Dev nD) (t : Fin (cfgM m hO).N) (y : Block.Idx) :
    (outsAt0 m hO hH c t).2 y = mergedStack (tbl m 0) (V m c main_v1) (V m c main_v3) (ValueIdx.ix3 (headOf t) (y 1) (y 2)) := by
  have hy : y = ValueIdx.ix3 (0 : Fin 1) (y 1) (y 2) := by
    funext a
    match a with
    | ⟨0, _⟩ => exact Fin.ext (Nat.lt_one_iff.1 (y 0).isLt)
    | ⟨1, _⟩ => rfl
    | ⟨2, _⟩ => rfl
  refine (congrArg (outsAt0 m hO hH c t).2 hy).trans ((outs_snd m hO hH c t (y 1) (y 2)).trans ?_)
  have en : (fun q => (iblk m hO c 3 t : Vec F S1x16x64 .f32) (ValueIdx.ix3 (0 : Fin 1) (Fin.ofNat 16 q) (y 2)))
      = fun q => (V m c main_v3 : Vec F S256x16x64 .f32) (ValueIdx.ix3 (headOf t) (Fin.ofNat 16 q) (y 2)) :=
    funext fun q => congrArg (V m c main_v3) (emb_3 m hO t (ValueIdx.ix3 (0 : Fin 1) (Fin.ofNat 16 q) (y 2)))
  have eo : (iblk m hO c 1 t : Vec F S1x2048x64 .f32) (ValueIdx.ix3 (0 : Fin 1) (y 1) (y 2))
      = (V m c main_v1 : Vec F S256x2048x64 .f32) (ValueIdx.ix3 (headOf t) (y 1) (y 2)) :=
    congrArg (V m c main_v1) (emb_1 m hO t (ValueIdx.ix3 (0 : Fin 1) (y 1) (y 2)))
  rw [en, eo]
  rfl

/-- Every element of the second result's array lies in a block written back. -/
theorem cover_snd (hO : Ok m) (i : (Stacked 2048).Idx) :
    ∃ t : Fin (cfgM m hO).N, ((cfgM m hO).win 5).flush t = true ∧ i ∈ (((cfgM m hO).win 5).blk t).view.set := by
  refine ⟨(i 0).cast N_0.symm, flush0_5 _ _, ?_⟩
  have hx := emb_5 m hO ((i 0).cast N_0.symm) (ValueIdx.ix3 (0 : Fin 1) (i 1) (i 2))
  have hi : ValueIdx.ix3 (headOf ((i 0).cast N_0.symm)) (i 1) (i 2) = i := (ValueIdx.eq_ix3 i).symm
  exact mem_set_of_emb_eq (((cfgM m hO).win 5).blk ((i 0).cast N_0.symm)).view _ _ (hx.trans hi)

/-- The second result's array: the update of the stacked cache. -/
theorem arr_snd (hO : Ok m) (hH : Hyps m hO) (c : Dev nD) :
    (dats m hO hH 0 c).arrAt 5 (cfgM m hO).N = mergedStack (tbl m 0) (V m c main_v1) (V m c main_v3) := by
  refine (dats m hO hH 0 c).arrAt_eq_of_emb 5 _ (fun t _ y => ?_) (cover_snd m hO)
  show (dats m hO hH 0 c).after 5 t y = _
  rw [after0_5]
  exact (left_snd m hO hH c t y).trans (congrArg (mergedStack (tbl m 0) (V m c main_v1) (V m c main_v3)) (emb_5 m hO t y).symm)

/-! ## The host's reshapes, before and after -/

theorem tbl_eq (c : Dev nD) : tbl m 0 = m ((c : Thread nD τ).loc main_arg2) := by
  obtain rfl : c = 0 := Subsingleton.elim _ _
  exact V_main_arg2 m 0

theorem V_main_v0 (c : Dev nD) : V m c main_v0 = shapeCast S256x2048x64 (m ((c : Thread nD τ).loc main_arg0)) shapeCasts_S8x32x2048x64_S256x2048x64 := by
  show StableHlo.after hostOps0 (fun b => m (c, b)) (Proc.devRef .tc main_v0) = _
  unfold hostOps0
  after_results
  rfl

theorem V_main_v1 (c : Dev nD) : V m c main_v1 = shapeCast S256x2048x64 (m ((c : Thread nD τ).loc main_arg1)) shapeCasts_S8x32x2048x64_S256x2048x64 := by
  show StableHlo.after hostOps0 (fun b => m (c, b)) (Proc.devRef .tc main_v1) = _
  unfold hostOps0
  after_results
  rfl

theorem V_main_v2 (c : Dev nD) : V m c main_v2 = shapeCast S256x16x64 (m ((c : Thread nD τ).loc main_arg3)) shapeCasts_S8x32x16x64_S256x16x64 := by
  show StableHlo.after hostOps0 (fun b => m (c, b)) (Proc.devRef .tc main_v2) = _
  unfold hostOps0
  after_results
  rfl

theorem V_main_v3 (c : Dev nD) : V m c main_v3 = shapeCast S256x16x64 (m ((c : Thread nD τ).loc main_arg4)) shapeCasts_S8x32x16x64_S256x16x64 := by
  show StableHlo.after hostOps0 (fun b => m (c, b)) (Proc.devRef .tc main_v3) = _
  unfold hostOps0
  after_results
  rfl

/-- The first result after the run: the reshape back of the region's array, `merged` of the arguments. -/
theorem result_fst (hO : Ok m) (hH : Hyps m hO) (c : Dev nD) :
    Pipeline.afterTail pcfgs (fun _ => adm m hO) (dats m hO hH) 0 (V0 m) [hostOps1] c main_v5
      = merged (m ((c : Thread nD τ).loc main_arg2)) (m ((c : Thread nD τ).loc main_arg0)) (m ((c : Thread nD τ).loc main_arg3)) := by
  have e : Pipeline.afterTail pcfgs (fun _ => adm m hO) (dats m hO hH) 0 (V0 m) [hostOps1] c main_v5
      = shapeCast S8x32x2048x64 ((dats m hO hH 0 c).arrAt 4 (cfgM m hO).N) shapeCasts_S256x2048x64_S8x32x2048x64 := by
    unfold Pipeline.afterTail
    after_results
    exact congrArg (fun x => shapeCast S8x32x2048x64 x shapeCasts_S256x2048x64_S8x32x2048x64)
      (Pipeline.withArrays_arr spec0 (by decide) c (V0 m c) (fun w => (dats m hO hH 0 c).arrAt w (cfgM m hO).N) 4)
  rw [e, arr_fst, V_main_v0, V_main_v2, tbl_eq m c]
  exact apart_mergedStack _ _ _ _ _ _

/-- The second result after the run: the reshape back of the region's array, `merged` of the arguments. -/
theorem result_snd (hO : Ok m) (hH : Hyps m hO) (c : Dev nD) :
    Pipeline.afterTail pcfgs (fun _ => adm m hO) (dats m hO hH) 0 (V0 m) [hostOps1] c main_v6
      = merged (m ((c : Thread nD τ).loc main_arg2)) (m ((c : Thread nD τ).loc main_arg1)) (m ((c : Thread nD τ).loc main_arg4)) := by
  have e : Pipeline.afterTail pcfgs (fun _ => adm m hO) (dats m hO hH) 0 (V0 m) [hostOps1] c main_v6
      = shapeCast S8x32x2048x64 ((dats m hO hH 0 c).arrAt 5 (cfgM m hO).N) shapeCasts_S256x2048x64_S8x32x2048x64 := by
    unfold Pipeline.afterTail
    after_results
    exact congrArg (fun x => shapeCast S8x32x2048x64 x shapeCasts_S256x2048x64_S8x32x2048x64)
      (Pipeline.withArrays_arr spec0 (by decide) c (V0 m c) (fun w => (dats m hO hH 0 c).arrAt w (cfgM m hO).N) 5)
  rw [e, arr_snd, V_main_v1, V_main_v3, tbl_eq m c]
  exact apart_mergedStack _ _ _ _ _ _

/-! ## The whole program -/

variable (ρ : Dev nD → PrngReg)

/-- Where every position is below the cache's length, the region's side conditions hold. -/
theorem hyps_of (hpos : ∀ (c : Dev nD) (q : Positions.Idx), (m ((c.tc : Thread nD τ).loc main_arg2) q : BitVec 32).toNat < 2048) :
    Hyps m (ok m) :=
  hyps m (ok m) fun q => by
    rw [tbl_eq m 0]
    exact hpos 0 q

/-- The arguments end unchanged and every counter ends at zero. -/
theorem frame (hpos : ∀ (c : Dev nD) (q : Positions.Idx), (m ((c.tc : Thread nD τ).loc main_arg2) q : BitVec 32).toNat < 2048) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Gen.frame m ρ (ok m) (hyps_of m hpos)

/-- Both results are `merged` of the arguments, as the references' are. -/
theorem run (hpos : ∀ (c : Dev nD) (q : Positions.Idx), (m ((c.tc : Thread nD τ).loc main_arg2) q : BitVec 32).toNat < 2048) :
    θ_run (defs (F := F)) (onTc (τ := τ) (main (F := F))) ⟨m, fun _ => 0, ρ⟩ (fun r => ∀ c : Dev nD,
      r.2.mem ((c.tc : Thread nD τ).loc main_v5) = merged (m ((c.tc : Thread nD τ).loc main_arg2)) (m ((c.tc : Thread nD τ).loc main_arg0)) (m ((c.tc : Thread nD τ).loc main_arg3))
      ∧ r.2.mem ((c.tc : Thread nD τ).loc main_v6) = merged (m ((c.tc : Thread nD τ).loc main_arg2)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨((h.1 c).2 main_v5 (by decide : main_v5 ∈ Pipeline.restRefs sig spec0)).trans (result_fst m (ok m) (hyps_of m hpos) c),
      ((h.1 c).2 main_v6 (by decide : main_v6 ∈ Pipeline.restRefs sig spec0)).trans (result_snd m (ok m) (hyps_of m hpos) c), h.2 c⟩)
    (θ_run_and (run_main m ρ (ok m) (hyps_of m hpos)) (unchanged m ρ (ok m) (hyps_of m hpos)))

end Cert.KernelIdeal.Rows
-- ==== Proof.RefIdeal.lean ====
/- The run of the reference `ReferenceIdeal`: both results are `merged`, the arguments end unchanged, every counter ends at zero. -/
module

public import proofs.«01_k».proof.Proof.Gen.ReferenceIdeal.Run
public import proofs.«01_k».proof.Proof.Merge
public import Idealize.ShloMosaic.Lib.Quiescent

@[expose] public section

namespace Cert.ReferenceIdeal.Rows

open Cert.ReferenceIdeal Cert.ReferenceIdeal.Gen Idealize.ShloMosaic Idealize.SL.Sem CacheRows

variable {F : FTy → Type} [FloatOps F]
variable (m : (ℓ : Loc nD τ sig) → Buf (Elt F) ℓ) (ρ : Dev nD → PrngReg)

/-- The arguments end unchanged and every counter ends at zero: the program has no semaphores. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (Value.run m ρ)

/-- Where every position is below the cache's length, both results are `merged`. -/
theorem run (hpos : ∀ (c : Dev nD) (q : Positions.Idx), (m ((c.tc : Thread nD τ).loc main_arg2) q : BitVec 32).toNat < 2048) :
    θ_run (defs (F := F)) (onTc (τ := τ) (main (F := F))) ⟨m, fun _ => 0, ρ⟩ (fun r => ∀ c : Dev nD,
      r.2.mem ((c.tc : Thread nD τ).loc main_v6) = merged (m ((c.tc : Thread nD τ).loc main_arg2)) (m ((c.tc : Thread nD τ).loc main_arg0)) (m ((c.tc : Thread nD τ).loc main_arg3))
      ∧ r.2.mem ((c.tc : Thread nD τ).loc main_v13) = merged (m ((c.tc : Thread nD τ).loc main_arg2)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (scatter_wrapped_eq_merged _ rfl rfl rfl rfl _ (hpos c) _ _ _ _),
    (h c).2.1.trans (scatter_wrapped_eq_merged _ rfl rfl rfl rfl _ (hpos c) _ _ _ _), (h c).2.2⟩) (Value.run m ρ)

end Cert.ReferenceIdeal.Rows
-- ==== Proof.lean ====
module

public import proofs.«01_k».proof.Defs
public import proofs.«01_k».proof.Proof.Positions
public import proofs.«01_k».proof.Proof.KRows
public import proofs.«01_k».proof.Proof.KIdealRows
public import proofs.«01_k».proof.Proof.RefIdeal
public import proofs.«01_k».proof.Proof.Ref
public import proofs.«01_k».proof.Proof.Gen.Pre_positions_in_range

@[expose] public section

noncomputable section

namespace Cert.Proof

open Idealize.ShloMosaic Idealize.SL.Sem CacheRows

/-- Equal arguments, equal merged caches. -/
theorem merged_congr {α : Type} {p p' : IVec Positions 32} {x x' : Cache.Idx → α} {y y' : NewRows.Idx → α}
    (hp : p = p') (hx : x = x') (hy : y = y') : merged p x y = merged p' x' y' := by
  rw [hp, hx, hy]

/-- The frames, and both results of the kernel equal to the reference's: over the extended reals, and word for word. -/
theorem claim : Cert.Claim := ⟨Cert.Kernel.Gen.facts, Cert.KernelIdeal.Gen.facts, Cert.ReferenceIdeal.Gen.facts, Cert.Reference.Gen.facts, Cert.Pre_positions_in_range.Gen.facts, by
  refine ⟨fun m g h => Cert.Kernel.Rows.frame m g fun c => lt_of_pre _ _ _ _ _ (h c),
    fun m g h => Cert.KernelIdeal.Rows.frame m g fun c => lt_of_pre _ _ _ _ _ (h c),
    fun m g _ => Cert.ReferenceIdeal.Rows.frame m g, fun m g _ => Cert.ReferenceIdeal.Rows.frame m g,
    fun m g _ => Cert.Reference.Rows.frame m g, trivial, ?_, ?_⟩
  · intro m g m' g' h ha
    have hp := fun c => lt_of_pre _ _ _ _ _ (h c)
    refine ⟨_, _, Cert.KernelIdeal.Rows.run m g hp, ?_⟩
    refine (θ_run Cert.ReferenceIdeal.defs _ _).mono (fun r hr c => ?_) (Cert.ReferenceIdeal.Rows.run m' g' fun c q => by rw [(ha c).2.2.1]; exact hp c q)
    obtain ⟨a0, a1, a2, a3, a4⟩ := ha c
    exact ⟨(hr c).1.trans (merged_congr a2 a0 a3), (hr c).2.1.trans (merged_congr a2 a1 a4), (hr c).2.2⟩
  · intro m g m' g' h ha
    have hp := fun c => lt_of_pre _ _ _ _ _ (h c)
    refine ⟨_, _, Cert.Kernel.Rows.run m g hp, ?_⟩
    refine (θ_run Cert.Reference.defs _ _).mono (fun r hr c => ?_) (Cert.Reference.Rows.run m' g' fun c q => by rw [(ha c).2.2.1]; exact hp c q)
    obtain ⟨a0, a1, a2, a3, a4⟩ := ha c
    exact ⟨(hr c).1.trans (merged_congr a2 a0 a3), (hr c).2.1.trans (merged_congr a2 a1 a4), (hr c).2.2⟩⟩

end Cert.Proof

end
